-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S6x16384x64 : Shape := ⟨3, ![6, 16384, 64]⟩
abbrev S64x64 : Shape := ⟨2, ![64, 64]⟩
abbrev S64 : Shape := ⟨1, ![64]⟩
abbrev S_ : Shape := ⟨0, ![]⟩

class Facts : Prop where
  bcast_S_S6x16384x64 : S_.BroadcastsInDim S6x16384x64 (![] : Fin 0 → Fin S6x16384x64.rank)
  bcast_S_S64x64 : S_.BroadcastsInDim S64x64 (![] : Fin 0 → Fin S64x64.rank)
  bcast_S_S64 : S_.BroadcastsInDim S64 (![] : Fin 0 → Fin S64.rank)

variable [Facts]

def fn {F : FTy → Type} [FloatOps F] (main_arg0 : FVec F S6x16384x64 .f32) (main_arg1 : FVec F S64x64 .f32) (main_arg2 : FVec F S64 .f32) (main_arg3 : FVec F S64x64 .f32) (main_arg4 : FVec F S64x64 .f32) (main_arg5 : FVec F S64 .f32) (main_arg6 : FVec F S64x64 .f32) (main_arg7 : FVec F S64 .f32) (main_arg8 : FVec F S64 .f32) : IVec S6x16384x64 1 × IVec S64x64 1 × IVec S64 1 × IVec S64x64 1 × IVec S64x64 1 :=
  let main_v0 : FVec F S6x16384x64 .f32 := Host.absf main_arg0
  let main_cst : FVec F S_ .f32 := constant S_ .f32 0x7F800000#32
  let main_v1 : FVec F S6x16384x64 .f32 := broadcastInDim S6x16384x64 ![] bcast_S_S6x16384x64 main_cst
  let main_v2 : IVec S6x16384x64 1 := cmpf .olt main_v0 main_v1
  let main_v3 : FVec F S64x64 .f32 := Host.absf main_arg1
  let main_cst_0 : FVec F S_ .f32 := constant S_ .f32 0x7F800000#32
  let main_v4 : FVec F S64x64 .f32 := broadcastInDim S64x64 ![] bcast_S_S64x64 main_cst_0
  let main_v5 : IVec S64x64 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_v12 : FVec F S64x64 .f32 := Host.absf main_arg4
  let main_cst_3 : FVec F S_ .f32 := constant S_ .f32 0x7F800000#32
  let main_v13 : FVec F S64x64 .f32 := broadcastInDim S64x64 ![] bcast_S_S64x64 main_cst_3
  let main_v14 : IVec S64x64 1 := cmpf .olt main_v12 main_v13
  (main_v2, main_v5, main_v8, main_v11, main_v14)
-- ==== Kernel.lean ====
abbrev S6x16384x64 : Shape := ⟨3, ![6, 16384, 64]⟩
abbrev S64x64 : Shape := ⟨2, ![64, 64]⟩
abbrev S64 : Shape := ⟨1, ![64]⟩
abbrev S_ : Shape := ⟨0, ![]⟩
abbrev S1x64 : Shape := ⟨2, ![1, 64]⟩
abbrev S16384x64 : Shape := ⟨2, ![16384, 64]⟩
abbrev S6x1024x64 : Shape := ⟨3, ![6, 1024, 64]⟩
abbrev S1024x64 : Shape := ⟨2, ![1024, 64]⟩
abbrev S1x1024x64 : Shape := ⟨3, ![1, 1024, 64]⟩

abbrev nBuf : Space → Nat
  | .hbm => 50
  | .vmem => 12
  | .smem => 0
  | _ => 0

abbrev bufTy : (tb : Table) → Fin (tcTables nBuf tb) → BufTy
  | .hbm, ⟨0, _⟩ => ⟨S6x16384x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .bf16⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .bf16⟩
  | .hbm, ⟨21, _⟩ => ⟨S64, .f32⟩
  | .hbm, ⟨22, _⟩ => ⟨S64, .f32⟩
  | .hbm, ⟨23, _⟩ => ⟨S1x64, .f32⟩
  | .hbm, ⟨24, _⟩ => ⟨S64x64, .f32⟩
  | .hbm, ⟨25, _⟩ => ⟨S_, .f32⟩
  | .hbm, ⟨26, _⟩ => ⟨S64x64, .f32⟩
  | .hbm, ⟨27, _⟩ => ⟨S64x64, .f32⟩
  | .hbm, ⟨28, _⟩ => ⟨S64x64, .bf16⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S_, .f32⟩
  | .hbm, ⟨33, _⟩ => ⟨S64x64, .f32⟩
  | .hbm, ⟨34, _⟩ => ⟨S64x64, .f32⟩
  | .hbm, ⟨35, _⟩ => ⟨S64x64, .bf16⟩
  | .hbm, ⟨36, _⟩ => ⟨S64, .f32⟩
  | .hbm, ⟨37, _⟩ => ⟨S64, .f32⟩
  | .hbm, ⟨38, _⟩ => ⟨S1x64, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S1x64, .f32⟩
  | .hbm, ⟨48, _⟩ => ⟨S1x64, .f32⟩
  | .hbm, ⟨49, _⟩ => ⟨S16384x64, .f32⟩
  | .local _ .vmem, ⟨0, _⟩ => ⟨S6x1024x64, .f32⟩
  | .local _ .vmem, ⟨1, _⟩ => ⟨S6x1024x64, .f32⟩
  | .local _ .vmem, ⟨2, _⟩ => ⟨S64x64, .bf16⟩
  | .local _ .vmem, ⟨3, _⟩ => ⟨S64x64, .bf16⟩
  | .local _ .vmem, ⟨4, _⟩ => ⟨S1x64, .f32⟩
  | .local _ .vmem, ⟨5, _⟩ => ⟨S64x64, .bf16⟩
  | .local _ .vmem, ⟨6, _⟩ => ⟨S64x64, .bf16⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1024x64, .f32⟩
  | .local _ .vmem, ⟨11, _⟩ => ⟨S1024x64, .f32⟩
  | _, _ => ⟨S6x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst_0 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_call0_v19 : Ref sig .tc := ⟨.hbm, 30, rfl⟩
abbrev main_call0_v20 : Ref sig .tc := ⟨.hbm, 31, rfl⟩
abbrev main_call0_cst_1 : Ref sig .tc := ⟨.hbm, 32, rfl⟩
abbrev main_call0_v21 : Ref sig .tc := ⟨.hbm, 33, rfl⟩
abbrev main_call0_v22 : Ref sig .tc := ⟨.hbm, 34, rfl⟩
abbrev main_call0_v23 : Ref sig .tc := ⟨.hbm, 35, rfl⟩
abbrev main_call0_v24 : Ref sig .tc := ⟨.hbm, 36, rfl⟩
abbrev main_call0_v25 : Ref sig .tc := ⟨.hbm, 37, rfl⟩
abbrev main_call0_v26 : Ref sig .tc := ⟨.hbm, 38, rfl⟩
abbrev main_call0_cst_2 : Ref sig .tc := ⟨.hbm, 39, rfl⟩
abbrev main_call0_v27 : Ref sig .tc := ⟨.hbm, 40, rfl⟩
abbrev main_call0_cst_3 : Ref sig .tc := ⟨.hbm, 41, rfl⟩
abbrev main_call0_v28 : Ref sig .tc := ⟨.hbm, 42, rfl⟩
abbrev main_call0_v29 : Ref sig .tc := ⟨.hbm, 43, rfl⟩
abbrev main_call0_v30 : Ref sig .tc := ⟨.hbm, 44, rfl⟩
abbrev main_call0_v31 : Ref sig .tc := ⟨.hbm, 45, rfl⟩
abbrev main_call0_v32 : Ref sig .tc := ⟨.hbm, 46, rfl⟩
abbrev main_call0_v33 : Ref sig .tc := ⟨.hbm, 47, rfl⟩
abbrev main_call0_v34 : Ref sig .tc := ⟨.hbm, 48, rfl⟩
abbrev main_v0 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S6x16384x64 : Shape := ⟨3, ![6, 16384, 64]⟩
abbrev S64x64 : Shape := ⟨2, ![64, 64]⟩
abbrev S64 : Shape := ⟨1, ![64]⟩
abbrev S26 : Shape := ⟨1, ![26]⟩
abbrev S_ : Shape := ⟨0, ![]⟩
abbrev S26x1 : Shape := ⟨2, ![26, 1]⟩
abbrev S26x16384x64 : Shape := ⟨3, ![26, 16384, 64]⟩
abbrev S1x1x64 : Shape := ⟨3, ![1, 1, 64]⟩
abbrev S16384x6x64 : Shape := ⟨3, ![16384, 6, 64]⟩
abbrev S16384x64 : Shape := ⟨2, ![16384, 64]⟩
abbrev S1x64 : Shape := ⟨2, ![1, 64]⟩

abbrev nBuf : Space → Nat
  | .hbm => 95
  | .vmem => 0
  | .smem => 0
  | _ => 0

abbrev bufTy : (tb : Table) → Fin (tcTables nBuf tb) → BufTy
  | .hbm, ⟨0, _⟩ => ⟨S6x16384x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S26, .i32⟩
  | .hbm, ⟨10, _⟩ => ⟨S26, .i32⟩
  | .hbm, ⟨11, _⟩ => ⟨S26, .i32⟩
  | .hbm, ⟨12, _⟩ => ⟨S26, .i32⟩
  | .hbm, ⟨13, _⟩ => ⟨S_, .i32⟩
  | .hbm, ⟨14, _⟩ => ⟨S26, .i32⟩
  | .hbm, ⟨15, _⟩ => ⟨S26, .i1⟩
  | .hbm, ⟨16, _⟩ => ⟨S_, .i32⟩
  | .hbm, ⟨17, _⟩ => ⟨S26, .i32⟩
  | .hbm, ⟨18, _⟩ => ⟨S26, .i32⟩
  | .hbm, ⟨19, _⟩ => ⟨S26, .i32⟩
  | .hbm, ⟨20, _⟩ => ⟨S26x1, .i32⟩
  | .hbm, ⟨21, _⟩ => ⟨S26x16384x64, .f32⟩
  | .hbm, ⟨22, _⟩ => ⟨S_, .f32⟩
  | .hbm, ⟨23, _⟩ => ⟨S6x16384x64, .f32⟩
  | .hbm, ⟨24, _⟩ => ⟨S26x1, .i32⟩
  | .hbm, ⟨25, _⟩ => ⟨S6x16384x64, .f32⟩
  | .hbm, ⟨26, _⟩ => ⟨S64x64, .f32⟩
  | .hbm, ⟨27, _⟩ => ⟨S6x16384x64, .f32⟩
  | .hbm, ⟨28, _⟩ => ⟨S1x1x64, .f32⟩
  | .hbm, ⟨29, _⟩ => ⟨S6x16384x64, .f32⟩
  | .hbm, ⟨30, _⟩ => ⟨S6x16384x64, .f32⟩
  | .hbm, ⟨31, _⟩ => ⟨S64x64, .f32⟩
  | .hbm, ⟨32, _⟩ => ⟨S6x16384x64, .f32⟩
  | .hbm, ⟨33, _⟩ => ⟨S6x16384x64, .f32⟩
  | .hbm, ⟨34, _⟩ => ⟨S_, .f32⟩
  | .hbm, ⟨35, _⟩ => ⟨S6x16384x64, .f32⟩
  | .hbm, ⟨36, _⟩ => ⟨S6x16384x64, .f32⟩
  | .hbm, ⟨37, _⟩ => ⟨S6x16384x64, .f32⟩
  | .hbm, ⟨38, _⟩ => ⟨S_, .f32⟩
  | .hbm, ⟨39, _⟩ => ⟨S_, .f32⟩
  | .hbm, ⟨40, _⟩ => ⟨S6x16384x64, .f32⟩
  | .hbm, ⟨41, _⟩ => ⟨S6x16384x64, .f32⟩
  | .hbm, ⟨42, _⟩ => ⟨S6x16384x64, .f32⟩
  | .hbm, ⟨43, _⟩ => ⟨S6x16384x64, .f32⟩
  | .hbm, ⟨44, _⟩ => ⟨S_, .i32⟩
  | .hbm, ⟨45, _⟩ => ⟨S26, .i32⟩
  | .hbm, ⟨46, _⟩ => ⟨S26, .i1⟩
  | .hbm, ⟨47, _⟩ => ⟨S_, .i32⟩
  | .hbm, ⟨48, _⟩ => ⟨S26, .i32⟩
  | .hbm, ⟨49, _⟩ => ⟨S26, .i32⟩
  | .hbm, ⟨50, _⟩ => ⟨S26, .i32⟩
  | .hbm, ⟨51, _⟩ => ⟨S26x1, .i32⟩
  | .hbm, ⟨52, _⟩ => ⟨S26x16384x64, .f32⟩
  | .hbm, ⟨53, _⟩ => ⟨S_, .f32⟩
  | .hbm, ⟨54, _⟩ => ⟨S6x16384x64, .f32⟩
  | .hbm, ⟨55, _⟩ => ⟨S26x1, .i32⟩
  | .hbm, ⟨56, _⟩ => ⟨S6x16384x64, .f32⟩
  | .hbm, ⟨57, _⟩ => ⟨S64x64, .f32⟩
  | .hbm, ⟨58, _⟩ => ⟨S6x16384x64, .f32⟩
  | .hbm, ⟨59, _⟩ => ⟨S1x1x64, .f32⟩
  | .hbm, ⟨60, _⟩ => ⟨S6x16384x64, .f32⟩
  | .hbm, ⟨61, _⟩ => ⟨S6x16384x64, .f32⟩
  | .hbm, ⟨62, _⟩ => ⟨S64x64, .f32⟩
  | .hbm, ⟨63, _⟩ => ⟨S6x16384x64, .f32⟩
  | .hbm, ⟨64, _⟩ => ⟨S6x16384x64, .f32⟩
  | .hbm, ⟨65, _⟩ => ⟨S_, .f32⟩
  | .hbm, ⟨66, _⟩ => ⟨S6x16384x64, .f32⟩
  | .hbm, ⟨67, _⟩ => ⟨S6x16384x64, .f32⟩
  | .hbm, ⟨68, _⟩ => ⟨S6x16384x64, .f32⟩
  | .hbm, ⟨69, _⟩ => ⟨S_, .f32⟩
  | .hbm, ⟨70, _⟩ => ⟨S_, .f32⟩
  | .hbm, ⟨71, _⟩ => ⟨S6x16384x64, .f32⟩
  | .hbm, ⟨72, _⟩ => ⟨S6x16384x64, .f32⟩
  | .hbm, ⟨73, _⟩ => ⟨S6x16384x64, .f32⟩
  | .hbm, ⟨74, _⟩ => ⟨S6x16384x64, .f32⟩
  | .hbm, ⟨75, _⟩ => ⟨S16384x6x64, .f32⟩
  | .hbm, ⟨76, _⟩ => ⟨S_, .f32⟩
  | .hbm, ⟨77, _⟩ => ⟨S16384x64, .f32⟩
  | .hbm, ⟨78, _⟩ => ⟨S_, .f32⟩
  | .hbm, ⟨79, _⟩ => ⟨S16384x64, .f32⟩
  | .hbm, ⟨80, _⟩ => ⟨S16384x64, .f32⟩
  | .hbm, ⟨81, _⟩ => ⟨S_, .f32⟩
  | .hbm, ⟨82, _⟩ => ⟨S16384x64, .f32⟩
  | .hbm, ⟨83, _⟩ => ⟨S16384x64, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S16384x64, .f32⟩
  | .hbm, ⟨88, _⟩ => ⟨S16384x64, .f32⟩
  | .hbm, ⟨89, _⟩ => ⟨S1x64, .f32⟩
  | .hbm, ⟨90, _⟩ => ⟨S16384x64, .f32⟩
  | .hbm, ⟨91, _⟩ => ⟨S16384x64, .f32⟩
  | .hbm, ⟨92, _⟩ => ⟨S1x64, .f32⟩
  | .hbm, ⟨93, _⟩ => ⟨S16384x64, .f32⟩
  | .hbm, ⟨94, _⟩ => ⟨S16384x64, .f32⟩
  | _, _ => ⟨S6x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_c_3 : Ref sig .tc := ⟨.hbm, 13, rfl⟩
abbrev main_v0 : Ref sig .tc := ⟨.hbm, 14, rfl⟩
abbrev main_v1 : Ref sig .tc := ⟨.hbm, 15, rfl⟩
abbrev main_c_4 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_7 : Ref sig .tc := ⟨.hbm, 44, rfl⟩
abbrev main_v26 : Ref sig .tc := ⟨.hbm, 45, rfl⟩
abbrev main_v27 : Ref sig .tc := ⟨.hbm, 46, rfl⟩
abbrev main_c_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_11 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_12 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_v55 : Ref sig .tc := ⟨.hbm, 80, rfl⟩
abbrev main_cst_14 : Ref sig .tc := ⟨.hbm, 81, rfl⟩
abbrev main_v56 : Ref sig .tc := ⟨.hbm, 82, rfl⟩
abbrev main_v57 : Ref sig .tc := ⟨.hbm, 83, rfl⟩
abbrev main_cst_15 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩

abbrev nD : Nat := 1
abbrev τ : Topo := Topo.v7x

variable {F : FTy → Type} [FloatOps F]
-- ==== Proof.Consts.lean ====
/- The values of the float words the two programs name, and the square roots they take of them. -/
module

public import Idealize.ShloMosaic.PureOps.Ideal.Laws

@[expose] public section

noncomputable section

namespace Cert.GraphConv

open Idealize.ShloMosaic

/-- The word of one half. -/
theorem word_half : Ideal.ofBits .f32 0x3F000000#32 = ((1 / 2 : ℝ) : EReal) := by
  simp [Ideal.ofBits, Ideal.ieee, -EReal.coe_mul]; norm_num

/-- The word of one. -/
theorem word_one : Ideal.ofBits .f32 0x3F800000#32 = ((1 : ℝ) : EReal) := by
  simp [Ideal.ofBits, Ideal.ieee, -EReal.coe_mul]; norm_num

/-- The word of six, the number of nodes. -/
theorem word_six : Ideal.ofBits .f32 0x40C00000#32 = ((6 : ℝ) : EReal) := by
  simp [Ideal.ofBits, Ideal.ieee, -EReal.coe_mul]; norm_num

/-- The number the variance-plus-epsilon word `1.00001` stands for. -/
def varEps : ℝ := 1 + 84 / 8388608

/-- The word of the variance plus epsilon. -/
theorem word_varEps : Ideal.ofBits .f32 0x3F800054#32 = ((varEps : ℝ) : EReal) := by
  have h : varEps = 2097173 / 2097152 := by norm_num [varEps]
  rw [h]
  simp [Ideal.ofBits, Ideal.ieee, -EReal.coe_mul]; norm_num

/-- The word of positive infinity. -/
theorem word_inf : Ideal.ofBits .f32 0x7F800000#32 = (⊤ : EReal) := by
  simp [Ideal.ofBits, Ideal.ieee]

/-- The root of one half, by which the kernel scales what it hands to `erf`. -/
def rho : ℝ := Real.sqrt (1 / 2)

theorem rho_pos : 0 < rho := Real.sqrt_pos.mpr (by norm_num)

theorem rho_sq : rho * rho = 1 / 2 := Real.mul_self_sqrt (by norm_num)

/-- The root of the variance plus epsilon. -/
def sigma : ℝ := Real.sqrt varEps

theorem sigma_pos : 0 < sigma := Real.sqrt_pos.mpr (by norm_num [varEps])

theorem sqrt_half : Ideal.sqrt ((1 / 2 : ℝ) : EReal) = ((rho : ℝ) : EReal) := by
  rw [Ideal.sqrt_coe, if_neg (by norm_num)]; rfl

theorem sqrt_varEps : Ideal.sqrt ((varEps : ℝ) : EReal) = ((sigma : ℝ) : EReal) := by
  rw [Ideal.sqrt_coe, if_neg (by norm_num [varEps])]; rfl

end Cert.GraphConv
-- ==== Proof.Rows.lean ====
/- One batch row of the network as a function of extended reals: the kernel's arithmetic and the plain program's, each
   over the six nodes and the sixty-four channels. The other modules read each program as one of these two functions;
   this one and `Equal.lean` never mention a program. -/
module

public import proofs.«01_k».proof.Proof.Consts

@[expose] public section

noncomputable section

namespace Cert.GraphConv

open Idealize.ShloMosaic
open scoped BigOperators

/-- A row of features: one value per node and channel. -/
abbrev Row := Fin 6 → Fin 64 → EReal
/-- A matrix over the channels. -/
abbrev Mat := Fin 64 → Fin 64 → EReal
/-- One value per channel. -/
abbrev Chan := Fin 64 → EReal

/-! ## The kernel's arithmetic -/

/-- The six nodes' features added up, in the kernel's order. -/
def total (x : Row) (k : Fin 64) : EReal := x 0 k + x 1 k + x 2 k + x 3 k + x 4 k + x 5 k

/-- One row of a matrix product: features `v` against column `c`. -/
def prod (v : Chan) (A : Mat) (c : Fin 64) : EReal := ∑ k : Fin 64, v k * A k c

/-- What every node of a layer shares: the total through the neighbour matrix, and the bias. -/
def shared (A : Mat) (b : Chan) (x : Row) (c : Fin 64) : EReal := prod (total x) A c + b c

/-- The layer's value at a node that neighbours every other node. -/
def fullNode (A D : Mat) (b : Chan) (x : Row) (i : Fin 6) (c : Fin 64) : EReal := shared A b x c + prod (x i) D c

/-- The layer's value at a node that neighbours every other node but `j`. -/
def lessNode (A D : Mat) (b : Chan) (x : Row) (i j : Fin 6) (c : Fin 64) : EReal :=
  fullNode A D b x i c - prod (x j) A c

/-- A layer as the kernel computes it, before its activation. -/
def kernelLayer (A D : Mat) (b : Chan) (x : Row) : Row
  | 0 => fullNode A D b x 0
  | 1 => fullNode A D b x 1
  | 2 => lessNode A D b x 2 5
  | 3 => lessNode A D b x 3 4
  | 4 => lessNode A D b x 4 3
  | 5 => lessNode A D b x 5 2

/-- The kernel's activation of a value that arrives already scaled. -/
def act (v : EReal) : EReal := v * (((1 : ℝ) : EReal) + Ideal.erf v)

/-- A layer with its activation. -/
def kernelStep (A D : Mat) (b : Chan) (x : Row) : Row := fun i c => act (kernelLayer A D b x i c)

/-- The kernel's result for one batch row. -/
def kernelRow (A₁ D₁ : Mat) (b₁ : Chan) (A₂ D₂ : Mat) (b₂ g s : Chan) (x : Row) (c : Fin 64) : EReal :=
  total (kernelStep A₂ D₂ b₂ (kernelStep A₁ D₁ b₁ x)) c * g c + s c

/-! ## The plain program's arithmetic -/

/-- The source node of each edge. -/
def src : Fin 26 → Fin 6 := ![0, 0, 0, 0, 0, 1, 1, 1, 1, 2, 2, 3, 4, 1, 2, 3, 4, 5, 2, 3, 4, 5, 3, 4, 5, 5]
/-- The target node of each edge. -/
def dst : Fin 26 → Fin 6 := ![1, 2, 3, 4, 5, 2, 3, 4, 5, 3, 4, 5, 5, 0, 0, 0, 0, 0, 1, 1, 1, 1, 2, 2, 3, 4]

/-- The features gathered at node `i`: those of each edge's source, over the edges that end there. -/
def gathered (x : Row) (i : Fin 6) (k : Fin 64) : EReal := ∑ e : Fin 26, if dst e = i then x (src e) k else 0

/-- A layer of the plain program, before its activation; the matrices as the arguments give them, read transposed. -/
def plainLayer (R W : Mat) (b : Chan) (x : Row) (i : Fin 6) (c : Fin 64) : EReal :=
  (∑ k : Fin 64, gathered x i k * R c k) + b c + ∑ k : Fin 64, x i k * W c k

/-- The exact gelu. -/
def gelu (h : EReal) : EReal := ((1 / 2 : ℝ) : EReal) * h * Ideal.erfc (-h * ((rho : ℝ) : EReal))

/-- A layer with its activation. -/
def plainStep (R W : Mat) (b : Chan) (x : Row) : Row := fun i c => gelu (plainLayer R W b x i c)

/-- The plain program's result for one batch row. -/
def plainRow (R₁ W₁ : Mat) (b₁ : Chan) (R₂ W₂ : Mat) (b₂ g s : Chan) (x : Row) (c : Fin 64) : EReal :=
  Ideal.div (Ideal.div (∑ i : Fin 6, plainStep R₂ W₂ b₂ (plainStep R₁ W₁ b₁ x) i c) ((6 : ℝ) : EReal) - 0)
    ((sigma : ℝ) : EReal) * g c + s c

end Cert.GraphConv
-- ==== Proof.Block.lean ====
/- The kernel's body read at one row and channel of its block: the first layer's six nodes, then the second layer and the
   assembly of the result. -/
module

public import proofs.«01_k».proof.Proof.Rows
public import proofs.«01_k».proof.Proof.Gen.KernelIdeal.Frame
public import Idealize.ShloMosaic.Lib.Pointwise

@[expose] public section

noncomputable section

namespace Cert.GraphConv

open Cert.KernelIdeal Cert.KernelIdeal.Gen Idealize.ShloMosaic
open scoped BigOperators

/-- A matrix of the body as a function of its row and column. -/
abbrev matAt (w : Vec Ideal S64x64 .bf16) : Mat := fun k c => w (ix2 k c)
/-- A row vector of the body as a function of its channel. -/
abbrev chanAt (b : Vec Ideal S1x64 .f32) : Chan := fun c => b (ix2 0 c)
/-- Row `p` of the features' block. -/
abbrev rowAt (x : Vec Ideal S6x1024x64 .f32) (p : Fin 1024) : Row := fun i k => x (ix3 i p k)

section
variable (x0 : Vec Ideal S6x1024x64 .f32) (x1 x2 : Vec Ideal S64x64 .bf16) (x3 : Vec Ideal S1x64 .f32)
  (x4 x5 : Vec Ideal S64x64 .bf16) (x6 x7 x8 : Vec Ideal S1x64 .f32) (p : Fin 1024) (c : Fin 64)

/-- What the first layer's nodes share. -/
theorem shared_read : k0_pay46 x0 x1 x2 x3 x4 x5 x6 x7 x8 (ix2 p c) = shared (matAt x1) (chanAt x3) (rowAt x0 p) c := by
  unfold k0_pay46 k0_pay16 k0_pay2 k0_pay3 k0_pay4 k0_pay5 k0_pay6 k0_pay7 k0_pay8
  pointwise
  rfl

/-- Node 0 after the first layer. -/
theorem first_read0 : k0_pay47 x0 x1 x2 x3 x4 x5 x6 x7 x8 (ix2 p c)
    = kernelStep (matAt x1) (matAt x2) (chanAt x3) (rowAt x0 p) 0 c := by
  unfold k0_pay47 k0_pay17 k0_pay41 k0_pay9 k0_pay10 k0_pay2
  pointwise
  rw [shared_read]
  show _ = act _
  unfold act
  rw [EReal.coe_one]
  rfl

/-- Node 1 after the first layer. -/
theorem first_read1 : k0_pay48 x0 x1 x2 x3 x4 x5 x6 x7 x8 (ix2 p c)
    = kernelStep (matAt x1) (matAt x2) (chanAt x3) (rowAt x0 p) 1 c := by
  unfold k0_pay48 k0_pay18 k0_pay41 k0_pay9 k0_pay11 k0_pay3
  pointwise
  rw [shared_read]
  show _ = act _
  unfold act
  rw [EReal.coe_one]
  rfl

/-- Node 2 after the first layer. -/
theorem first_read2 : k0_pay49 x0 x1 x2 x3 x4 x5 x6 x7 x8 (ix2 p c)
    = kernelStep (matAt x1) (matAt x2) (chanAt x3) (rowAt x0 p) 2 c := by
  unfold k0_pay49 k0_pay19 k0_pay40 k0_pay8 k0_pay41 k0_pay9 k0_pay42 k0_pay45 k0_pay12 k0_pay4 k0_pay15 k0_pay7
  pointwise
  rw [shared_read]
  show _ = act _
  unfold act
  rw [EReal.coe_one]
  rfl

/-- Node 3 after the first layer. -/
theorem first_read3 : k0_pay50 x0 x1 x2 x3 x4 x5 x6 x7 x8 (ix2 p c)
    = kernelStep (matAt x1) (matAt x2) (chanAt x3) (rowAt x0 p) 3 c := by
  unfold k0_pay50 k0_pay20 k0_pay40 k0_pay8 k0_pay41 k0_pay9 k0_pay43 k0_pay44 k0_pay13 k0_pay5 k0_pay14 k0_pay6
  pointwise
  rw [shared_read]
  show _ = act _
  unfold act
  rw [EReal.coe_one]
  rfl

/-- Node 4 after the first layer. -/
theorem first_read4 : k0_pay51 x0 x1 x2 x3 x4 x5 x6 x7 x8 (ix2 p c)
    = kernelStep (matAt x1) (matAt x2) (chanAt x3) (rowAt x0 p) 4 c := by
  unfold k0_pay51 k0_pay21 k0_pay40 k0_pay8 k0_pay41 k0_pay9 k0_pay43 k0_pay44 k0_pay13 k0_pay5 k0_pay14 k0_pay6
  pointwise
  rw [shared_read]
  show _ = act _
  unfold act
  rw [EReal.coe_one]
  rfl

/-- Node 5 after the first layer. -/
theorem first_read5 : k0_pay52 x0 x1 x2 x3 x4 x5 x6 x7 x8 (ix2 p c)
    = kernelStep (matAt x1) (matAt x2) (chanAt x3) (rowAt x0 p) 5 c := by
  unfold k0_pay52 k0_pay22 k0_pay40 k0_pay8 k0_pay41 k0_pay9 k0_pay42 k0_pay45 k0_pay12 k0_pay4 k0_pay15 k0_pay7
  pointwise
  rw [shared_read]
  show _ = act _
  unfold act
  rw [EReal.coe_one]
  rfl

end

section
variable (v0 v1 v2 v3 v4 v5 : FVec Ideal S1024x64 .f32) (w4 w5 : Vec Ideal S64x64 .bf16) (w6 w7 w8 : Vec Ideal S1x64 .f32)
  (p : Fin 1024) (y : Row) (c : Fin 64)
  (h0 : ∀ k, v0 (ix2 p k) = y 0 k) (h1 : ∀ k, v1 (ix2 p k) = y 1 k) (h2 : ∀ k, v2 (ix2 p k) = y 2 k)
  (h3 : ∀ k, v3 (ix2 p k) = y 3 k) (h4 : ∀ k, v4 (ix2 p k) = y 4 k) (h5 : ∀ k, v5 (ix2 p k) = y 5 k)
include h0 h1 h2 h3 h4 h5

/-- What the second layer's nodes share, over features that row `p` holds as `y`. -/
theorem shared_read2 : k0_pay29 v0 v1 v2 v3 v4 v5 w4 w6 (ix2 p c) = shared (matAt w4) (chanAt w6) y c := by
  unfold k0_pay29 k0_pay23
  pointwise
  simp only [h0, h1, h2, h3, h4, h5]
  rfl

/-- The second layer and the assembly, over features that row `p` holds as `y`. -/
theorem second_read :
    k0_pay1 (k0_pay29 v0 v1 v2 v3 v4 v5 w4 w6) (k0_pay30 v3 w5) (k0_pay31 v4 w5) (k0_pay32 v5 w5) (k0_pay33 v2 w4)
        (k0_pay34 v3 w4) (k0_pay35 v4 w4) (k0_pay36 v5 w4) (k0_pay37 v0 v1 v2 v3 v4 v5 w4 w5 w6)
        (k0_pay38 v0 v1 v2 v3 v4 v5 w4 w5 w6) (k0_pay39 v0 v1 v2 v3 v4 v5 w4 w5 w6) w7 w8 (ix2 p c)
      = total (kernelStep (matAt w4) (matAt w5) (chanAt w6) y) c * chanAt w7 c + chanAt w8 c := by
  unfold k0_pay1 k0_pay30 k0_pay31 k0_pay32 k0_pay33 k0_pay34 k0_pay35 k0_pay36 k0_pay37 k0_pay38 k0_pay39
    k0_pay23 k0_pay24 k0_pay25 k0_pay26 k0_pay27 k0_pay28
  pointwise
  simp only [shared_read2 v0 v1 v2 v3 v4 v5 w4 w6 p y c h0 h1 h2 h3 h4 h5, h0, h1, h2, h3, h4, h5]
  unfold total kernelStep act
  rw [EReal.coe_one]
  rfl

end

/-- A load of a whole matrix is the matrix. -/
theorem load_mat (w : Vec Ideal S64x64 .bf16) : View.ld w r0_6 = w := View.ld_unit_zero (by decide) _ w
/-- A load of a whole row vector is the vector. -/
theorem load_chan (b : Vec Ideal S1x64 .f32) : View.ld b r0_7 = b := View.ld_unit_zero (by decide) _ b

/-- The block the body leaves, read at row `p` and channel `c`. -/
theorem block_read (x0 : Vec Ideal S6x1024x64 .f32) (x1 x2 : Vec Ideal S64x64 .bf16) (x3 : Vec Ideal S1x64 .f32)
    (x4 x5 : Vec Ideal S64x64 .bf16) (x6 x7 x8 : Vec Ideal S1x64 .f32) (p : Fin 1024) (c : Fin 64) :
    out0_9 x0 x1 x2 x3 x4 x5 x6 x7 x8 (ix2 p c)
      = kernelRow (matAt x1) (matAt x2) (chanAt x3) (matAt x4) (matAt x5) (chanAt x6) (chanAt x7) (chanAt x8)
          (rowAt x0 p) c := by
  unfold out0_9
  rw [View.canon_unit_zero (by decide)]
  refine (second_read _ _ _ _ _ _ _ _ _ _ _ p (kernelStep (matAt x1) (matAt x2) (chanAt x3) (rowAt x0 p)) c
    (fun k => first_read0 x0 x1 x2 x3 x4 x5 x6 x7 x8 p k) (fun k => first_read1 x0 x1 x2 x3 x4 x5 x6 x7 x8 p k)
    (fun k => first_read2 x0 x1 x2 x3 x4 x5 x6 x7 x8 p k) (fun k => first_read3 x0 x1 x2 x3 x4 x5 x6 x7 x8 p k)
    (fun k => first_read4 x0 x1 x2 x3 x4 x5 x6 x7 x8 p k) (fun k => first_read5 x0 x1 x2 x3 x4 x5 x6 x7 x8 p k)).trans ?_
  rw [load_mat x4, load_mat x5, load_chan x6, load_chan x7, load_chan x8]
  rfl

end Cert.GraphConv
-- ==== Proof.Operands.lean ====
/- The arrays the kernel's launch finds, read at one index over the arguments: the scaled neighbour and difference
   matrices, the scaled biases, and the closing scale and shift. -/
module

public import proofs.«01_k».proof.Proof.Consts
public import proofs.«01_k».proof.Proof.Gen.KernelIdeal.Frame
public import Idealize.ShloMosaic.Lib.Pointwise
public import Idealize.ShloMosaic.Lib.Claim

@[expose] public section

noncomputable section

namespace Cert.GraphConv

open Cert.KernelIdeal Cert.KernelIdeal.Gen Idealize.ShloMosaic Idealize.ShloMosaic.TcCoe Idealize.SL.Sem
open scoped BigOperators

variable (m : (ℓ : Loc nD τ sig) → Buf (Elt Ideal) ℓ) (d : Dev nD) (k c : Fin 64)

/-! ## The kernel's arguments as arrays -/

/-- The node features. -/
abbrev argX : FVec Ideal S6x16384x64 .f32 := m ((d : Thread nD τ).loc main_arg0)
/-- The first layer's neighbour weights. -/
abbrev argR₁ : FVec Ideal S64x64 .f32 := m ((d : Thread nD τ).loc main_arg1)
/-- The first layer's bias. -/
abbrev argB₁ : FVec Ideal S64 .f32 := m ((d : Thread nD τ).loc main_arg2)
/-- The first layer's own weights. -/
abbrev argW₁ : FVec Ideal S64x64 .f32 := m ((d : Thread nD τ).loc main_arg3)
/-- The second layer's neighbour weights. -/
abbrev argR₂ : FVec Ideal S64x64 .f32 := m ((d : Thread nD τ).loc main_arg4)
/-- The second layer's bias. -/
abbrev argB₂ : FVec Ideal S64 .f32 := m ((d : Thread nD τ).loc main_arg5)
/-- The second layer's own weights. -/
abbrev argW₂ : FVec Ideal S64x64 .f32 := m ((d : Thread nD τ).loc main_arg6)
/-- The closing scale. -/
abbrev argG : FVec Ideal S64 .f32 := m ((d : Thread nD τ).loc main_arg7)
/-- The closing shift. -/
abbrev argS : FVec Ideal S64 .f32 := m ((d : Thread nD τ).loc main_arg8)

/-! ## Vectors the host builds -/

/-- The square root of one half, as the host computes it. -/
def rootHalf : FVec Ideal S_ .f32 := Host.sqrt (constant S_ .f32 0x3F000000#32)

theorem rootHalf_read (i : S_.Idx) : rootHalf i = ((rho : ℝ) : EReal) := by
  show Ideal.sqrt (Ideal.ofBits .f32 0x3F000000#32) = _
  rw [word_half, sqrt_half]

/-- One half. -/
def halfWord : FVec Ideal S_ .f32 := constant S_ .f32 0x3F000000#32

theorem halfWord_read (i : S_.Idx) : halfWord i = ((1 / 2 : ℝ) : EReal) := word_half

/-- A neighbour matrix scaled by `q`, transposed. -/
def relArr (q : FVec Ideal S_ .f32) (R : FVec Ideal S64x64 .f32) : FVec Ideal S64x64 .bf16 :=
  truncf .bf16 (mulf (broadcastInDim S64x64 ![] bcast_S_S64x64 q) (transpose S64x64 [1, 0] R transposes_S64x64_S64x64_1_0))
    bitsLt_bf16_f32

/-- A difference of own and neighbour weights scaled by `q`, transposed. -/
def diffArr (q : FVec Ideal S_ .f32) (R W : FVec Ideal S64x64 .f32) : FVec Ideal S64x64 .bf16 :=
  truncf .bf16 (mulf (broadcastInDim S64x64 ![] bcast_S_S64x64 q)
    (subf (transpose S64x64 [1, 0] W transposes_S64x64_S64x64_1_0)
      (transpose S64x64 [1, 0] R transposes_S64x64_S64x64_1_0))) bitsLt_bf16_f32

/-- A bias scaled by `q`, as a row. -/
def biasArr (q : FVec Ideal S_ .f32) (b : FVec Ideal S64 .f32) : FVec Ideal S1x64 .f32 :=
  shapeCast S1x64 (mulf (broadcastInDim S64 ![] bcast_S_S64 q) b) shapeCasts_S64_S1x64

/-- The closing scale with the mean's and the variance's divisor folded in, as a row. -/
def scaleArr (q : FVec Ideal S_ .f32) (g : FVec Ideal S64 .f32) : FVec Ideal S1x64 .f32 :=
  shapeCast S1x64 (mulf g (broadcastInDim S64 ![] bcast_S_S64
    (Host.divf q (mulf (constant S_ .f32 0x40C00000#32) (Host.sqrt (constant S_ .f32 0x3F800054#32)))))) shapeCasts_S64_S1x64

theorem relArr_read (q : FVec Ideal S_ .f32) (R : FVec Ideal S64x64 .f32) :
    relArr q R (ix2 k c) = q ix0 * R (ix2 c k) := by unfold relArr; pointwise

theorem diffArr_read (q : FVec Ideal S_ .f32) (R W : FVec Ideal S64x64 .f32) :
    diffArr q R W (ix2 k c) = q ix0 * (W (ix2 c k) - R (ix2 c k)) := by unfold diffArr; pointwise

theorem biasArr_read (q : FVec Ideal S_ .f32) (b : FVec Ideal S64 .f32) :
    biasArr q b (ix2 0 c) = q ix0 * b (ix1 c) := by unfold biasArr; pointwise

theorem scaleArr_read (g : FVec Ideal S64 .f32) :
    scaleArr rootHalf g (ix2 0 c) = g (ix1 c) * Ideal.div ((rho : ℝ) : EReal) (((6 : ℝ) : EReal) * ((sigma : ℝ) : EReal)) := by
  have e : (Host.divf rootHalf (mulf (constant S_ .f32 0x40C00000#32) (Host.sqrt (constant S_ .f32 0x3F800054#32)))
      : FVec Ideal S_ .f32) ix0 = Ideal.div ((rho : ℝ) : EReal) (((6 : ℝ) : EReal) * ((sigma : ℝ) : EReal)) := by
    show Ideal.div (rootHalf ix0) (Ideal.ofBits .f32 0x40C00000#32 * Ideal.sqrt (Ideal.ofBits .f32 0x3F800054#32)) = _
    rw [rootHalf_read, word_six, word_varEps, sqrt_varEps]
  unfold scaleArr
  generalize (Host.divf rootHalf (mulf (constant S_ .f32 0x40C00000#32) (Host.sqrt (constant S_ .f32 0x3F800054#32)))
      : FVec Ideal S_ .f32) = t at e ⊢
  rw [← e]
  pointwise

/-- A shift as a row. -/
def shiftArr (s : FVec Ideal S64 .f32) : FVec Ideal S1x64 .f32 := shapeCast S1x64 s shapeCasts_S64_S1x64

theorem shiftArr_read (s : FVec Ideal S64 .f32) : shiftArr s (ix2 0 c) = s (ix1 c) := by unfold shiftArr; pointwise

/-! ## What the launch finds in each operand -/

/-- The first layer's neighbour matrix. -/
theorem found_v4 : V m d main_call0_v4 = relArr rootHalf (argR₁ m d) := by entry_read; rfl
/-- The first layer's difference matrix. -/
theorem found_v10 : V m d main_call0_v10 = diffArr rootHalf (argR₁ m d) (argW₁ m d) := by entry_read; rfl
/-- The first layer's bias. -/
theorem found_v13 : V m d main_call0_v13 = biasArr rootHalf (argB₁ m d) := by entry_read; rfl
/-- The second layer's neighbour matrix. -/
theorem found_v17 : V m d main_call0_v17 = relArr halfWord (argR₂ m d) := by entry_read; rfl
/-- The second layer's difference matrix. -/
theorem found_v23 : V m d main_call0_v23 = diffArr halfWord (argR₂ m d) (argW₂ m d) := by entry_read; rfl
/-- The second layer's bias. -/
theorem found_v26 : V m d main_call0_v26 = biasArr rootHalf (argB₂ m d) := by entry_read; rfl
/-- The closing scale. -/
theorem found_v33 : V m d main_call0_v33 = scaleArr rootHalf (argG m d) := by entry_read; rfl
/-- The closing shift. -/
theorem found_v34 : V m d main_call0_v34 = shiftArr (argS m d) := by entry_read; rfl

end Cert.GraphConv
-- ==== Proof.Array.lean ====
/- The kernel's result array: every block the grid writes back, read together as one function of the arguments. -/
module

public import proofs.«01_k».proof.Proof.Block
public import proofs.«01_k».proof.Proof.Operands
public import proofs.«01_k».proof.Proof.Gen.KernelIdeal.Value
public import Idealize.ShloMosaic.Lib.Pipeline.ValueKit

@[expose] public section

noncomputable section

namespace Cert.GraphConv

open Cert.KernelIdeal Cert.KernelIdeal.Gen Idealize.ShloMosaic Idealize.ShloMosaic.TcCoe Idealize.SL.Sem
open scoped BigOperators

variable (m : (ℓ : Loc nD τ sig) → Buf (Elt Ideal) ℓ) (d : Dev nD)

/-- The kernel's result at row `r` and channel `c` as a function of the arguments. -/
def kernelAt (r : Fin 16384) (c : Fin 64) : EReal :=
  kernelRow (fun k c => ((rho : ℝ) : EReal) * argR₁ m d (ix2 c k))
    (fun k c => ((rho : ℝ) : EReal) * (argW₁ m d (ix2 c k) - argR₁ m d (ix2 c k)))
    (fun c => ((rho : ℝ) : EReal) * argB₁ m d (ix1 c))
    (fun k c => ((1 / 2 : ℝ) : EReal) * argR₂ m d (ix2 c k))
    (fun k c => ((1 / 2 : ℝ) : EReal) * (argW₂ m d (ix2 c k) - argR₂ m d (ix2 c k)))
    (fun c => ((rho : ℝ) : EReal) * argB₂ m d (ix1 c))
    (fun c => argG m d (ix1 c) * Ideal.div ((rho : ℝ) : EReal) (((6 : ℝ) : EReal) * ((sigma : ℝ) : EReal)))
    (fun c => argS m d (ix1 c)) (fun i k => argX m d (ix3 i r k)) c

/-- The kernel's result array. -/
def kernelOut : FVec Ideal S16384x64 .f32 := fun j => kernelAt m d (j 0) (j 1)

/-- Where each window's block lies at a grid point. -/
theorem places : ∀ t : Fin grid0.N,
    win0_0.index t = ![0, t.val, 0] ∧ win0_1.index t = ![0, 0] ∧ win0_2.index t = ![0, 0] ∧ win0_3.index t = ![0, 0] ∧
    win0_4.index t = ![0, 0] ∧ win0_5.index t = ![0, 0] ∧ win0_6.index t = ![0, 0] ∧ win0_7.index t = ![0, 0] ∧
    win0_8.index t = ![0, 0] ∧ win0_9.index t = ![t.val, 0] := by decide +kernel

theorem relMat (q : FVec Ideal S_ .f32) (R : FVec Ideal S64x64 .f32) (β : ℝ) (hq : ∀ i, q i = ((β : ℝ) : EReal)) :
    matAt (relArr q R) = fun k c => ((β : ℝ) : EReal) * R (ix2 c k) :=
  funext₂ fun k c => (relArr_read k c q R).trans (congrArg (· * _) (hq _))

theorem diffMat (q : FVec Ideal S_ .f32) (R W : FVec Ideal S64x64 .f32) (β : ℝ) (hq : ∀ i, q i = ((β : ℝ) : EReal)) :
    matAt (diffArr q R W) = fun k c => ((β : ℝ) : EReal) * (W (ix2 c k) - R (ix2 c k)) :=
  funext₂ fun k c => (diffArr_read k c q R W).trans (congrArg (· * _) (hq _))

theorem biasChan (b : FVec Ideal S64 .f32) : chanAt (biasArr rootHalf b) = fun c => ((rho : ℝ) : EReal) * b (ix1 c) :=
  funext fun c => (biasArr_read c rootHalf b).trans (congrArg (· * _) (rootHalf_read _))

theorem scaleChan (g : FVec Ideal S64 .f32) : chanAt (scaleArr rootHalf g)
    = fun c => g (ix1 c) * Ideal.div ((rho : ℝ) : EReal) (((6 : ℝ) : EReal) * ((sigma : ℝ) : EReal)) :=
  funext fun c => scaleArr_read c g

theorem shiftChan (s : FVec Ideal S64 .f32) : chanAt (shiftArr s) = fun c => s (ix1 c) :=
  funext fun c => shiftArr_read c s

section
variable (t : Fin grid0.N)

/-- Operand 1 is staged whole at every point. -/
theorem whole1 : (iblk m d 1 t : Vec Ideal S64x64 .bf16) = relArr rootHalf (argR₁ m d) := by
  funext y
  rw [← found_v4]
  blk_ext [iblk, (places t).2.1]

/-- Operand 2 is staged whole at every point. -/
theorem whole2 : (iblk m d 2 t : Vec Ideal S64x64 .bf16) = diffArr rootHalf (argR₁ m d) (argW₁ m d) := by
  funext y
  rw [← found_v10]
  blk_ext [iblk, (places t).2.2.1]

/-- Operand 3 is staged whole at every point. -/
theorem whole3 : (iblk m d 3 t : Vec Ideal S1x64 .f32) = biasArr rootHalf (argB₁ m d) := by
  funext y
  rw [← found_v13]
  blk_ext [iblk, (places t).2.2.2.1]

/-- Operand 4 is staged whole at every point. -/
theorem whole4 : (iblk m d 4 t : Vec Ideal S64x64 .bf16) = relArr halfWord (argR₂ m d) := by
  funext y
  rw [← found_v17]
  blk_ext [iblk, (places t).2.2.2.2.1]

/-- Operand 5 is staged whole at every point. -/
theorem whole5 : (iblk m d 5 t : Vec Ideal S64x64 .bf16) = diffArr halfWord (argR₂ m d) (argW₂ m d) := by
  funext y
  rw [← found_v23]
  blk_ext [iblk, (places t).2.2.2.2.2.1]

/-- Operand 6 is staged whole at every point. -/
theorem whole6 : (iblk m d 6 t : Vec Ideal S1x64 .f32) = biasArr rootHalf (argB₂ m d) := by
  funext y
  rw [← found_v26]
  blk_ext [iblk, (places t).2.2.2.2.2.2.1]

/-- Operand 7 is staged whole at every point. -/
theorem whole7 : (iblk m d 7 t : Vec Ideal S1x64 .f32) = scaleArr rootHalf (argG m d) := by
  funext y
  rw [← found_v33]
  blk_ext [iblk, (places t).2.2.2.2.2.2.2.1]

/-- Operand 8 is staged whole at every point. -/
theorem whole8 : (iblk m d 8 t : Vec Ideal S1x64 .f32) = shiftArr (argS m d) := by
  funext y
  rw [← found_v34]
  blk_ext [iblk, (places t).2.2.2.2.2.2.2.2.1]

/-- The features' block at point `t` holds rows `1024 t` onward. -/
theorem rows_read (p : Fin 1024) (r : Fin 16384) (hr : r.val = 1024 * t.val + p.val) (i : Fin 6) (k : Fin 64) :
    (iblk m d 0 t : Vec Ideal S6x1024x64 .f32) (ix3 i p k) = argX m d (ix3 i r k) := by
  show _ = m ((d : Thread nD τ).loc main_arg0) (ix3 i r k)
  rw [← V_main_arg0 m d]
  blk_ext [iblk, (places t).1]

end

/-- The kernel's result array after the run. -/
theorem array_eq : (dats m 0 d).arrAt 9 cfg0.N = kernelOut m d := by
  refine (dats m 0 d).arrAt_eq_of_covers 9 _ (by decide +kernel) fun t hf y => ?_
  refine (congrFun (Value.flushed9 m d t) y).trans ?_
  have h0 : (y 0).val < 1024 := (y 0).isLt
  have h1 : (y 1).val < 64 := (y 1).isLt
  have ht : t.val < 16 := t.isLt
  obtain ⟨p, hp⟩ : ∃ p : Fin 1024, p.val = (y 0).val := ⟨⟨(y 0).val, h0⟩, rfl⟩
  obtain ⟨c, hc⟩ : ∃ c : Fin 64, c.val = (y 1).val := ⟨⟨(y 1).val, h1⟩, rfl⟩
  obtain ⟨r, hr⟩ : ∃ r : Fin 16384, r.val = 1024 * t.val + p.val := ⟨⟨1024 * t.val + p.val, by omega⟩, rfl⟩
  have e : ∀ o : Vec Ideal S1024x64 .f32, (cfg0.win 9).cut (grid0.coords t) o y = o (ix2 p c) := by
    intro o
    blk_ext [hp, hc]
  have e' : ((cfg0.win 9).blk t).view.emb y = (ix2 r c : S16384x64.Idx) := by
    blk_ext [hp, hc, hr, (places t).2.2.2.2.2.2.2.2.2]
  rw [e, e', block_read, whole1, whole2, whole3, whole4, whole5, whole6, whole7, whole8]
  show _ = kernelAt m d r c
  unfold kernelAt
  rw [relMat _ _ rho rootHalf_read, diffMat _ _ _ rho rootHalf_read, biasChan, relMat _ _ (1 / 2) halfWord_read,
    diffMat _ _ _ (1 / 2) halfWord_read, biasChan, scaleChan, shiftChan]
  exact congrArg (kernelRow _ _ _ _ _ _ _ _ · c) (funext₂ fun i k => rows_read m d t p r hr i k)

/-- The kernel's run: its result is `kernelOut` of the arguments, and the arguments are kept. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = kernelOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (array_eq m c), (h c).2⟩) (Value.run_blocks m ρ)

end Cert.GraphConv
-- ==== Proof.Edges.lean ====
/- The plain program's two edge operations read at one index: the gather of the features at the edges' sources, and the
   scatter that adds them up at the edges' targets. -/
module

public import proofs.«01_k».proof.Proof.Rows
public import proofs.«01_k».proof.Proof.Gen.ReferenceIdeal
public import Idealize.ShloMosaic.Lib.Pointwise
public import Idealize.ShloMosaic.Lib.Routing.OpsPair

@[expose] public section

noncomputable section

namespace Cert.GraphConv

open Cert.ReferenceIdeal Cert.ReferenceIdeal.Gen Idealize.ShloMosaic
open scoped BigOperators

/-- Node features over the batch. -/
abbrev Feats := FVec Ideal S6x16384x64 .f32

/-- The gather's numbers, under a short name. -/
abbrev takeRows := gather_S6x16384x64_S26x1_S26x16384x64_12_0_n_n_0_1_11638464
/-- The scatter's numbers, under a short name. -/
abbrev putRows := scatter_S6x16384x64_S26x1_S26x16384x64_12_0_0_1

/-- The gather reads, for edge `e`, the features of the node its index names. -/
theorem gather_read (x : Feats) (idx : IVec S26x1 32) (e : Fin 26) (p : Fin 16384) (k : Fin 64) :
    Host.gather takeRows x idx (ix3 e p k) = x (ix3 ⟨min (idx (ix2 e 0)).toInt.toNat 5, by omega⟩ p k) := by
  unfold Host.gather
  congr 1
  funext a
  refine Fin.ext ?_
  show takeRows.start (ix3 e p k) idx a + takeRows.batchCoord (ix3 e p k) a + takeRows.offCoord (ix3 e p k) a = _
  rw [GatherDims.batchCoord_eq_zero _ _ _ List.not_mem_nil]
  match a with
  | ⟨0, _⟩ =>
    rw [GatherDims.offCoord_eq_zero _ _ _
      (fun h => ((GatherDims.mem_sKept _ _).mp h).1 (List.mem_singleton.mpr rfl))]
    unfold GatherDims.start
    rw [dif_pos (show (⟨0, by decide⟩ : Fin 3) ∈ takeRows.startIndexMap from List.mem_singleton.mpr rfl)]
    have h : takeRows.siIdx (ix3 e p k) ⟨List.idxOf (⟨0, by decide⟩ : Fin 3) takeRows.startIndexMap,
        List.idxOf_lt_length_iff.2 (List.mem_singleton.mpr rfl)⟩ = ix2 e 0 := by
      funext b; refine Fin.ext ?_
      match b with
      | ⟨0, _⟩ => rfl
      | ⟨1, _⟩ => rfl
    rw [h]
    rfl
  | ⟨1, _⟩ => exact (congrArg (· + 0 + _) rfl).trans (Nat.zero_add _)
  | ⟨2, _⟩ => exact (congrArg (· + 0 + _) rfl).trans (Nat.zero_add _)

/-- Edge `e`'s element at `(p', k')` lands at node `i`, `(p, k)` when the index names `i` and the rest agrees. -/
theorem lands_iff (idx : IVec S26x1 32) (e : Fin 26) (p' p : Fin 16384) (k' k : Fin 64) (i : Fin 6) :
    putRows.resultIdx? (ix3 e p' k') idx = some (ix3 i p k) ↔ (idx (ix2 e 0)).toInt = (i.val : Int) ∧ p' = p ∧ k' = k := by
  have h : putRows.start (ix3 e p' k') idx 0 = (idx (ix2 e 0)).toInt := by
    unfold ScatterDims.start
    rw [dif_pos (show (0 : Fin 3) ∈ putRows.scatterDimsToOperandDims from List.mem_singleton.mpr rfl)]
    congr 2
    funext b; refine Fin.ext ?_
    match b with
    | ⟨0, _⟩ => rfl
    | ⟨1, _⟩ => rfl
  have w0 : putRows.window (ix3 e p' k') 0 = 0 := rfl
  have w1 : putRows.window (ix3 e p' k') 1 = p'.val := rfl
  have w2 : putRows.window (ix3 e p' k') 2 = k'.val := rfl
  have s1 : putRows.start (ix3 e p' k') idx 1 = 0 := rfl
  have s2 : putRows.start (ix3 e p' k') idx 2 = 0 := rfl
  rw [Routing.resultIdx?_eq_some]
  constructor
  · intro q
    have q0 := q 0; have q1 := q 1; have q2 := q 2
    rw [h, w0] at q0; rw [s1, w1] at q1; rw [s2, w2] at q2
    change _ = (i.val : Int) at q0; change _ = (p.val : Int) at q1; change _ = (k.val : Int) at q2
    exact ⟨by simpa using q0, Fin.ext (by omega), Fin.ext (by omega)⟩
  · rintro ⟨q, rfl, rfl⟩ a
    match a with
    | ⟨0, _⟩ => exact (congrArg₂ (· + ·) h (congrArg Nat.cast w0)).trans (by simpa using q)
    | ⟨1, _⟩ => exact (congrArg₂ (· + ·) s1 (congrArg Nat.cast w1)).trans (by simp [ix3])
    | ⟨2, _⟩ => exact (congrArg₂ (· + ·) s2 (congrArg Nat.cast w2)).trans (by simp [ix3])

/-- The scatter adds, at node `i`, the updates of the edges whose index names `i`. -/
theorem scatter_read (z : Feats) (idx : IVec S26x1 32) (upd : FVec Ideal S26x16384x64 .f32)
    (i : Fin 6) (p : Fin 16384) (k : Fin 64) :
    Host.scatterAdd putRows z idx upd (ix3 i p k)
      = z (ix3 i p k) + ∑ e : Fin 26, if (idx (ix2 e 0)).toInt = (i.val : Int) then upd (ix3 e p k) else 0 := by
  have h : Host.scatterAdd putRows z idx upd (ix3 i p k) = z (ix3 i p k)
      + ∑ j ∈ Finset.univ.filter (fun j => putRows.resultIdx? j idx = some (ix3 i p k)), upd j := Eq.refl _
  rw [h]
  refine congrArg (z (ix3 i p k) + ·) ?_
  rw [← Finset.sum_filter]
  refine Finset.sum_nbij' (fun j => j 0) (fun e => ix3 e p k) ?_ ?_ ?_ ?_ ?_
  · intro j hj
    rw [eq_ix3 j] at hj
    exact Finset.mem_filter.2 ⟨Finset.mem_univ _, ((lands_iff idx _ _ _ _ _ _).1 (Finset.mem_filter.1 hj).2).1⟩
  · intro e he
    exact Finset.mem_filter.2 ⟨Finset.mem_univ _, (lands_iff idx _ _ _ _ _ _).2 ⟨(Finset.mem_filter.1 he).2, rfl, rfl⟩⟩
  · intro j hj
    rw [eq_ix3 j] at hj
    obtain ⟨-, hp, hk⟩ := (lands_iff idx _ _ _ _ _ _).1 (Finset.mem_filter.1 hj).2
    rw [← hp, ← hk]; exact (eq_ix3 j).symm
  · intro e _; rfl
  · intro j hj
    rw [eq_ix3 j] at hj
    obtain ⟨-, hp, hk⟩ := (lands_iff idx _ _ _ _ _ _).1 (Finset.mem_filter.1 hj).2
    rw [← hp, ← hk]; exact congrArg upd (eq_ix3 j)

/-- The edges' index column: a table of words, stood up as a column. -/
def column (w : IVec S26 32) : IVec S26x1 32 := broadcastInDim S26x1 ![0] bcast_S26_S26x1_0 w

/-- The table of sources as the gather takes it, a negative word brought up by six. -/
def wrapped (w : IVec S26 32) : IVec S26 32 :=
  select (cmpi .slt w (broadcastInDim S26 ![] bcast_S_S26 (constantI S_ 32 0#32)))
    (addi w (broadcastInDim S26 ![] bcast_S_S26 (constantI S_ 32 6#32))) w

theorem column_read (w : IVec S26 32) (e : Fin 26) : column w (ix2 e 0) = w (ix1 e) := by
  unfold column; pointwise

theorem wrapped_read (w : IVec S26 32) (e : Fin 26) :
    wrapped w (ix1 e) = if (w (ix1 e)).slt 0#32 then w (ix1 e) + 6#32 else w (ix1 e) := by
  unfold wrapped; pointwise
  show (if BitVec.ofBool ((w (ix1 e)).slt 0#32) = 1#1 then w (ix1 e) + 6#32 else w (ix1 e)) = _
  cases (w (ix1 e)).slt 0#32 <;> rfl

end Cert.GraphConv
-- ==== Proof.Plain.lean ====
/- The plain program's result read at one row and channel: its layer, its gelu and its closing normalisation as vector
   functions, each read at an index, and the program's term as their composition. -/
module

public import proofs.«01_k».proof.Proof.Edges
public import proofs.«01_k».proof.Proof.Gen.ReferenceIdeal.Run

@[expose] public section

noncomputable section

namespace Cert.GraphConv

open Cert.ReferenceIdeal Cert.ReferenceIdeal.Gen Idealize.ShloMosaic Idealize.ShloMosaic.TcCoe Idealize.SL.Sem
open scoped BigOperators

/-! ## The edge tables -/

/-- The first layer's table of sources. -/
abbrev srcWords : IVec S26 32 := fun i => lit0 (S26.rowMajor i)
/-- The first layer's table of targets. -/
abbrev dstWords : IVec S26 32 := fun i => lit1 (S26.rowMajor i)
/-- The second layer's table of sources. -/
abbrev srcWords' : IVec S26 32 := fun i => lit2 (S26.rowMajor i)
/-- The second layer's table of targets. -/
abbrev dstWords' : IVec S26 32 := fun i => lit3 (S26.rowMajor i)

/-- A table of words that names the sources of the edges. -/
def NamesSrc (w : IVec S26 32) : Prop := ∀ e : Fin 26, w (ix1 e) = BitVec.ofNat 32 (src e).val
/-- A table of words that names the targets of the edges. -/
def NamesDst (w : IVec S26 32) : Prop := ∀ e : Fin 26, w (ix1 e) = BitVec.ofNat 32 (dst e).val

theorem srcWords_names : NamesSrc srcWords := by unfold NamesSrc; decide
theorem dstWords_names : NamesDst dstWords := by unfold NamesDst; decide
theorem srcWords'_names : NamesSrc srcWords' := by unfold NamesSrc; decide
theorem dstWords'_names : NamesDst dstWords' := by unfold NamesDst; decide

theorem src_column {w : IVec S26 32} (h : NamesSrc w) (e : Fin 26) :
    min (column (wrapped w) (ix2 e 0)).toInt.toNat 5 = (src e).val := by
  rw [column_read, wrapped_read, h e]
  generalize src e = i
  revert i
  decide

theorem dst_column {w : IVec S26 32} (h : NamesDst w) (e : Fin 26) (i : Fin 6) :
    (column w (ix2 e 0)).toInt = (i.val : Int) ↔ dst e = i := by
  rw [column_read, h e]
  generalize dst e = j
  revert i j
  decide

/-! ## The program's stages as vector functions -/

/-- The features gathered from the edges' sources and added up at their targets. -/
def gatherArr (ws wd : IVec S26 32) (x : Feats) : Feats :=
  Host.scatterAdd putRows (broadcastInDim S6x16384x64 ![] bcast_S_S6x16384x64 (constant S_ .f32 0x00000000#32))
    (column wd) (Host.gather takeRows x (column (wrapped ws)))

/-- Features through a matrix, read transposed. -/
def throughArr (x : Feats) (A : FVec Ideal S64x64 .f32) : Feats :=
  Host.dotGeneral dot_S6x16384x64_S64x64_S6x16384x64_2_0_01_1_n_n none x
    (transpose S64x64 [1, 0] A transposes_S64x64_S64x64_1_0)

/-- A layer before its activation. -/
def layerArr (ws wd : IVec S26 32) (x : Feats) (R : FVec Ideal S64x64 .f32) (b : FVec Ideal S64 .f32)
    (W : FVec Ideal S64x64 .f32) : Feats :=
  addf (addf (throughArr (gatherArr ws wd x) R)
    (broadcastInDim S6x16384x64 ![0, 1, 2] bcast_S1x1x64_S6x16384x64_0_1_2 (broadcastInDim S1x1x64 ![2] bcast_S64_S1x1x64_2 b)))
    (throughArr x W)

/-- The exact gelu. -/
def geluArr (h : Feats) : Feats :=
  mulf (mulf (broadcastInDim S6x16384x64 ![] bcast_S_S6x16384x64 (constant S_ .f32 0x3F000000#32)) h)
    (Host.erfc (mulf (Host.negf h)
      (broadcastInDim S6x16384x64 ![] bcast_S_S6x16384x64 (Host.sqrt (constant S_ .f32 0x3F000000#32)))))

/-- The mean over the nodes, normalised, scaled and shifted. -/
def closeArr (x : Feats) (g s : FVec Ideal S64 .f32) : FVec Ideal S16384x64 .f32 :=
  addf (mulf (Host.divf (subf (Host.divf (Host.reduceAdd (transpose S16384x6x64 [1, 0, 2] x transposes_S6x16384x64_S16384x6x64_1_0_2) (constant S_ .f32 0x00000000#32) reducesTo_S16384x6x64_S16384x64_d1 h_S_)
      (broadcastInDim S16384x64 ![] bcast_S_S16384x64 (constant S_ .f32 0x40C00000#32)))
      (broadcastInDim S16384x64 ![] bcast_S_S16384x64 (constant S_ .f32 0x00000000#32)))
      (broadcastInDim S16384x64 ![] bcast_S_S16384x64 (id (Host.sqrt (constant S_ .f32 0x3F800054#32)))))
      (broadcastInDim S16384x64 ![0, 1] bcast_S1x64_S16384x64_0_1 (broadcastInDim S1x64 ![1] bcast_S64_S1x64_1 g)))
    (broadcastInDim S16384x64 ![0, 1] bcast_S1x64_S16384x64_0_1 (broadcastInDim S1x64 ![1] bcast_S64_S1x64_1 s))

/-! ## Each stage read at an index -/

/-- Row `p` of node features. -/
abbrev featRow (x : Feats) (p : Fin 16384) : Row := fun i k => x (ix3 i p k)
/-- A weight matrix as the argument gives it. -/
abbrev weight (A : FVec Ideal S64x64 .f32) : Mat := fun c k => A (ix2 c k)
/-- A vector over the channels. -/
abbrev channel (b : FVec Ideal S64 .f32) : Chan := fun c => b (ix1 c)

theorem gatherArr_read {ws wd : IVec S26 32} (hs : NamesSrc ws) (hd : NamesDst wd) (x : Feats)
    (i : Fin 6) (p : Fin 16384) (k : Fin 64) : gatherArr ws wd x (ix3 i p k) = gathered (featRow x p) i k := by
  unfold gatherArr gathered
  rw [scatter_read]
  have z : (broadcastInDim S6x16384x64 ![] bcast_S_S6x16384x64 (constant S_ .f32 0x00000000#32) : Feats) (ix3 i p k) = 0 := by
    pointwise
  rw [z, zero_add]
  refine Finset.sum_congr rfl fun e _ => ?_
  rw [gather_read, if_congr (dst_column hd e i) rfl rfl]
  have q : (⟨min (column (wrapped ws) (ix2 e 0)).toInt.toNat 5, by omega⟩ : Fin 6) = src e := Fin.ext (src_column hs e)
  rw [q]

theorem throughArr_read (x : Feats) (A : FVec Ideal S64x64 .f32) (i : Fin 6) (p : Fin 16384) (c : Fin 64) :
    throughArr x A (ix3 i p c) = ∑ k : Fin 64, x (ix3 i p k) * A (ix2 c k) := by
  unfold throughArr
  pointwise

theorem layerArr_read {ws wd : IVec S26 32} (hs : NamesSrc ws) (hd : NamesDst wd) (x : Feats)
    (R : FVec Ideal S64x64 .f32) (b : FVec Ideal S64 .f32) (W : FVec Ideal S64x64 .f32) (i : Fin 6) (p : Fin 16384)
    (c : Fin 64) :
    layerArr ws wd x R b W (ix3 i p c) = plainLayer (weight R) (weight W) (channel b) (featRow x p) i c := by
  unfold layerArr
  pointwise
  rw [throughArr_read, throughArr_read]
  simp only [gatherArr_read hs hd]
  rfl

theorem geluArr_read (h : Feats) (i : Fin 6) (p : Fin 16384) (c : Fin 64) :
    geluArr h (ix3 i p c) = gelu (h (ix3 i p c)) := by
  show Ideal.ofBits .f32 0x3F000000#32 * h (ix3 i p c)
    * Ideal.erfc (-(h (ix3 i p c)) * Ideal.sqrt (Ideal.ofBits .f32 0x3F000000#32)) = _
  rw [word_half, sqrt_half]
  rfl

theorem closeArr_read (x : Feats) (g s : FVec Ideal S64 .f32) (p : Fin 16384) (c : Fin 64) :
    closeArr x g s (ix2 p c)
      = Ideal.div (Ideal.div (∑ i : Fin 6, x (ix3 i p c)) ((6 : ℝ) : EReal) - 0) ((sigma : ℝ) : EReal)
        * g (ix1 c) + s (ix1 c) := by
  unfold closeArr
  pointwise
  have e : (id (Host.sqrt (constant S_ .f32 0x3F800054#32)) : FVec Ideal S_ .f32) ix0 = ((sigma : ℝ) : EReal) := by
    show Ideal.sqrt (Ideal.ofBits .f32 0x3F800054#32) = _
    rw [word_varEps, sqrt_varEps]
  rw [e, word_six]

/-! ## The whole program -/

/-- The plain program's result array as a function of its arguments. -/
def plainArr (x : Feats) (R₁ : FVec Ideal S64x64 .f32) (b₁ : FVec Ideal S64 .f32) (W₁ R₂ : FVec Ideal S64x64 .f32)
    (b₂ : FVec Ideal S64 .f32) (W₂ : FVec Ideal S64x64 .f32) (g s : FVec Ideal S64 .f32) : FVec Ideal S16384x64 .f32 :=
  closeArr (geluArr (layerArr srcWords' dstWords' (geluArr (layerArr srcWords dstWords x R₁ b₁ W₁)) R₂ b₂ W₂)) g s

theorem plainArr_read (x : Feats) (R₁ : FVec Ideal S64x64 .f32) (b₁ : FVec Ideal S64 .f32) (W₁ R₂ : FVec Ideal S64x64 .f32)
    (b₂ : FVec Ideal S64 .f32) (W₂ : FVec Ideal S64x64 .f32) (g s : FVec Ideal S64 .f32) (p : Fin 16384) (c : Fin 64) :
    plainArr x R₁ b₁ W₁ R₂ b₂ W₂ g s (ix2 p c)
      = plainRow (weight R₁) (weight W₁) (channel b₁) (weight R₂) (weight W₂) (channel b₂) (channel g) (channel s)
          (featRow x p) c := by
  have f : featRow (geluArr (layerArr srcWords dstWords x R₁ b₁ W₁)) p
      = plainStep (weight R₁) (weight W₁) (channel b₁) (featRow x p) := by
    funext i k
    exact (geluArr_read _ i p k).trans
      (congrArg gelu (layerArr_read srcWords_names dstWords_names x R₁ b₁ W₁ i p k))
  have h : ∀ i : Fin 6, geluArr (layerArr srcWords' dstWords' (geluArr (layerArr srcWords dstWords x R₁ b₁ W₁)) R₂ b₂ W₂) (ix3 i p c)
      = plainStep (weight R₂) (weight W₂) (channel b₂)
          (plainStep (weight R₁) (weight W₁) (channel b₁) (featRow x p)) i c := by
    intro i
    rw [geluArr_read, layerArr_read srcWords'_names dstWords'_names, f]
    exact Eq.refl _
  unfold plainArr plainRow
  rw [closeArr_read, Finset.sum_congr rfl fun i _ => h i]

/-- What the plain program's run leaves is that function of its arguments. -/
theorem result_eq (m : (ℓ : Loc nD τ sig) → Buf (Elt Ideal) ℓ) (d : Dev nD) :
    Value.res_out0 m d = plainArr (m ((d : Thread nD τ).loc main_arg0)) (m ((d : Thread nD τ).loc main_arg1))
      (m ((d : Thread nD τ).loc main_arg2)) (m ((d : Thread nD τ).loc main_arg3)) (m ((d : Thread nD τ).loc main_arg4))
      (m ((d : Thread nD τ).loc main_arg5)) (m ((d : Thread nD τ).loc main_arg6)) (m ((d : Thread nD τ).loc main_arg7))
      (m ((d : Thread nD τ).loc main_arg8)) := by
  show Value.res_main_v67 m d = _
  unfold Value.res_main_v67 plainArr closeArr geluArr layerArr gatherArr throughArr column wrapped
  rfl

end Cert.GraphConv
-- ==== Proof.Equal.lean ====
/- The two programs' arithmetic on one batch row is equal, for finite features, first-layer parameters and second-layer
   neighbour matrix: each layer of the kernel is the plain layer scaled by the root of one half, the scaled activation is
   a multiple of the gelu, and the multiples cancel at the end. -/
module

public import proofs.«01_k».proof.Proof.Rows
public import Mathlib.Tactic.Abel

@[expose] public section

noncomputable section

namespace Cert.GraphConv

open Idealize.ShloMosaic
open scoped BigOperators

/-! ## Extended reals -/

/-- A nonnegative real distributes over a sum of two extended reals. -/
theorem scale_add {r : ℝ} (hr : 0 ≤ r) (a b : EReal) : (r : EReal) * (a + b) = r * a + r * b :=
  EReal.left_distrib_of_nonneg_of_ne_top (EReal.coe_nonneg.mpr hr) (EReal.coe_ne_top r) a b

/-- A nonnegative real distributes over a finite sum. -/
theorem scale_sum {ι : Type} {r : ℝ} (hr : 0 ≤ r) (s : Finset ι) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, scale_add hr, ih]

/-- A real sum, read among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real times the scaled difference of an extended real and a real. -/
theorem mul_scaled_sub {a β : ℝ} (hβ : 0 < β) (w : EReal) (p : ℝ) :
    (a : EReal) * ((β : EReal) * (w - (p : EReal))) = ((a * β : ℝ) : EReal) * w + ((-(a * β * p) : ℝ) : EReal) := by
  induction w with
  | coe w =>
    norm_cast
    ring
  | top =>
    rw [EReal.top_sub_coe, EReal.coe_mul_top_of_pos hβ]
    rcases lt_trichotomy a 0 with h | h | h
    · rw [EReal.coe_mul_top_of_neg h, EReal.coe_mul_top_of_neg (mul_neg_of_neg_of_pos h hβ), EReal.bot_add]
    · subst h; simp
    · rw [EReal.coe_mul_top_of_pos h, EReal.coe_mul_top_of_pos (mul_pos h hβ), EReal.top_add_coe]
  | bot =>
    rw [EReal.bot_sub, EReal.coe_mul_bot_of_pos hβ]
    rcases lt_trichotomy a 0 with h | h | h
    · rw [EReal.coe_mul_bot_of_neg h, EReal.coe_mul_bot_of_neg (mul_neg_of_neg_of_pos h hβ), EReal.top_add_coe]
    · subst h; simp
    · rw [EReal.coe_mul_bot_of_pos h, EReal.coe_mul_bot_of_pos (mul_pos h hβ), EReal.bot_add]

/-! ## One layer -/

/-- Which nodes each node gathers from, in the reals. -/
def near (y : Fin 6 → Fin 64 → ℝ) (i : Fin 6) (k : Fin 64) : ℝ := ∑ e : Fin 26, if dst e = i then y (src e) k else 0

theorem gathered_coe (y : Fin 6 → Fin 64 → ℝ) (i : Fin 6) (k : Fin 64) :
    gathered (fun i k => (y i k : EReal)) i k = ((near y i k : ℝ) : EReal) := by
  unfold gathered near
  rw [coe_sum]
  refine Finset.sum_congr rfl fun e _ => ?_
  split <;> simp

/-- All six nodes in the reals. -/
def all (y : Fin 6 → Fin 64 → ℝ) (k : Fin 64) : ℝ := y 0 k + y 1 k + y 2 k + y 3 k + y 4 k + y 5 k

/-- What node `i` gathers is everything but itself and the node (if any) it is not joined to. -/
theorem near_eq (y : Fin 6 → Fin 64 → ℝ) (k : Fin 64) :
    near y 0 k = all y k - y 0 k ∧ near y 1 k = all y k - y 1 k ∧ near y 2 k = all y k - y 2 k - y 5 k
      ∧ near y 3 k = all y k - y 3 k - y 4 k ∧ near y 4 k = all y k - y 4 k - y 3 k ∧ near y 5 k = all y k - y 5 k - y 2 k := by
  refine ⟨?_, ?_, ?_, ?_, ?_, ?_⟩ <;>
    (simp [near, all, dst, src, Fin.sum_univ_succ]; try ring)

variable (α β : ℝ) (hβ : 0 < β) (hαβ : α * β = rho)
variable (y : Fin 6 → Fin 64 → ℝ) (R : Fin 64 → Fin 64 → ℝ) (W : Mat) (b : Chan)

/-- The features the kernel's layer is handed: the plain ones, each `α` times. -/
abbrev scaledRow : Row := fun i k => ((α * y i k : ℝ) : EReal)
/-- The neighbour matrix the kernel's layer is handed. -/
abbrev scaledRel : Mat := fun k c => (β : EReal) * (R c k : EReal)
/-- The difference matrix the kernel's layer is handed. -/
abbrev scaledDiff : Mat := fun k c => (β : EReal) * (W c k - (R c k : EReal))
/-- The bias the kernel's layer is handed. -/
abbrev scaledBias : Chan := fun c => ((rho : ℝ) : EReal) * b c

omit y in
include hαβ in
/-- A real row `α` times, through the scaled neighbour matrix. -/
theorem prod_rel (v : Fin 64 → ℝ) (c : Fin 64) :
    prod (fun k => ((α * v k : ℝ) : EReal)) (scaledRel β R) c = ((rho * ∑ k, v k * R c k : ℝ) : EReal) := by
  unfold prod
  rw [Finset.mul_sum, coe_sum]
  refine Finset.sum_congr rfl fun k _ => ?_
  show ((α * v k : ℝ) : EReal) * ((β : EReal) * (R c k : EReal)) = _
  rw [← hαβ, ← EReal.coe_mul, ← EReal.coe_mul]
  congr 1
  ring

omit y in
include hβ hαβ in
/-- A real row `α` times, through the scaled difference matrix. -/
theorem prod_diff (v : Fin 64 → ℝ) (c : Fin 64) :
    prod (fun k => ((α * v k : ℝ) : EReal)) (scaledDiff β R W) c
      = ((rho : ℝ) : EReal) * (∑ k, (v k : EReal) * W c k) + ((-(rho * ∑ k, v k * R c k) : ℝ) : EReal) := by
  unfold prod
  rw [scale_sum rho_pos.le, Finset.mul_sum, ← Finset.sum_neg_distrib, coe_sum, ← Finset.sum_add_distrib]
  refine Finset.sum_congr rfl fun k _ => ?_
  rw [mul_scaled_sub hβ, ← mul_assoc, ← EReal.coe_mul, ← hαβ]
  congr 3 <;> ring

omit R W b in
theorem total_scaled (k : Fin 64) : total (scaledRow α y) k = ((α * all y k : ℝ) : EReal) := by
  unfold total all
  norm_cast
  ring

/-- Reals gathered out of a sum of extended reals. -/
theorem collect (p q s : ℝ) (u v : EReal) (h : p + q = s) :
    (p : EReal) + u + (v + (q : EReal)) = (s : EReal) + u + v := by
  rw [← h, EReal.coe_add]; abel

/-- As `collect`, a third real subtracted. -/
theorem collect_sub (p q z s : ℝ) (u v : EReal) (h : p + q - z = s) :
    (p : EReal) + u + (v + (q : EReal)) - (z : EReal) = (s : EReal) + u + v := by
  rw [← h, sub_eq_add_neg, ← EReal.coe_neg, sub_eq_add_neg, EReal.coe_add, EReal.coe_add]; abel

/-- The scaled plain layer, in the shape the kernel's sums come to. -/
theorem scaled_plain (i : Fin 6) (c : Fin 64) :
    ((rho : ℝ) : EReal) * plainLayer (fun c k => (R c k : EReal)) W b (fun i k => (y i k : EReal)) i c
      = ((rho * ∑ k, near y i k * R c k : ℝ) : EReal) + ((rho : ℝ) : EReal) * b c
        + ((rho : ℝ) : EReal) * ∑ k, (y i k : EReal) * W c k := by
  unfold plainLayer
  rw [scale_add rho_pos.le, scale_add rho_pos.le, EReal.coe_mul, coe_sum]
  congr 3
  refine Finset.sum_congr rfl fun k _ => ?_
  rw [gathered_coe, EReal.coe_mul]

include hβ hαβ in
/-- A node joined to every other. -/
theorem fullNode_eq (i : Fin 6) (c : Fin 64) (h : ∀ k, near y i k = all y k - y i k) :
    fullNode (scaledRel β R) (scaledDiff β R W) (scaledBias b) (scaledRow α y) i c
      = ((rho : ℝ) : EReal) * plainLayer (fun c k => (R c k : EReal)) W b (fun i k => (y i k : EReal)) i c := by
  unfold fullNode shared
  rw [scaled_plain, funext (total_scaled α y), prod_rel α β hαβ, prod_diff α β hβ hαβ]
  refine collect _ _ _ _ _ ?_
  rw [← sub_eq_add_neg, ← mul_sub, ← Finset.sum_sub_distrib]
  refine congrArg _ (Finset.sum_congr rfl fun k _ => ?_)
  rw [h k]; ring

include hβ hαβ in
/-- A node joined to every other but `j`. -/
theorem lessNode_eq (i j : Fin 6) (c : Fin 64) (h : ∀ k, near y i k = all y k - y i k - y j k) :
    lessNode (scaledRel β R) (scaledDiff β R W) (scaledBias b) (scaledRow α y) i j c
      = ((rho : ℝ) : EReal) * plainLayer (fun c k => (R c k : EReal)) W b (fun i k => (y i k : EReal)) i c := by
  unfold lessNode fullNode shared
  rw [scaled_plain, funext (total_scaled α y), prod_rel α β hαβ, prod_rel α β hαβ, prod_diff α β hβ hαβ]
  refine collect_sub _ _ _ _ _ _ ?_
  rw [← sub_eq_add_neg, ← mul_sub, ← mul_sub, ← Finset.sum_sub_distrib, ← Finset.sum_sub_distrib]
  refine congrArg _ (Finset.sum_congr rfl fun k _ => ?_)
  rw [h k]; ring

include hβ hαβ in
/-- The kernel's layer is the plain layer times the root of one half. -/
theorem kernelLayer_eq (i : Fin 6) (c : Fin 64) :
    kernelLayer (scaledRel β R) (scaledDiff β R W) (scaledBias b) (scaledRow α y) i c
      = ((rho : ℝ) : EReal) * plainLayer (fun c k => (R c k : EReal)) W b (fun i k => (y i k : EReal)) i c := by
  match i with
  | 0 => exact fullNode_eq α β hβ hαβ y R W b 0 c fun k => (near_eq y k).1
  | 1 => exact fullNode_eq α β hβ hαβ y R W b 1 c fun k => (near_eq y k).2.1
  | 2 => exact lessNode_eq α β hβ hαβ y R W b 2 5 c fun k => (near_eq y k).2.2.1
  | 3 => exact lessNode_eq α β hβ hαβ y R W b 3 4 c fun k => (near_eq y k).2.2.2.1
  | 4 => exact lessNode_eq α β hβ hαβ y R W b 4 3 c fun k => (near_eq y k).2.2.2.2.1
  | 5 => exact lessNode_eq α β hβ hαβ y R W b 5 2 c fun k => (near_eq y k).2.2.2.2.2

/-! ## The activation -/

/-- Twice the root of one half: how much larger the kernel's activations are than the gelu's. -/
def tau : ℝ := 2 * rho

theorem tau_pos : 0 < tau := mul_pos two_pos rho_pos
theorem tau_half : tau * (1 / 2) = rho := by unfold tau; ring
theorem tau_rho : tau * rho = 1 := by unfold tau; rw [mul_assoc, rho_sq]; norm_num

/-- The activation of a scaled value is a multiple of the value's gelu. -/
theorem act_scaled (h : EReal) : act (((rho : ℝ) : EReal) * h) = ((tau : ℝ) : EReal) * gelu h := by
  unfold act gelu
  rw [Ideal.erfc, EReal.neg_mul, Ideal.erf_neg, sub_eq_add_neg, neg_neg, mul_comm h ((rho : ℝ) : EReal), EReal.coe_one,
    mul_assoc ((1 / 2 : ℝ) : EReal), ← mul_assoc ((tau : ℝ) : EReal), ← EReal.coe_mul, tau_half, mul_assoc]

/-- The gelu of a real is real. -/
theorem gelu_coe (h : ℝ) : ∃ z : ℝ, gelu (h : EReal) = (z : EReal) := by
  unfold gelu
  rw [Ideal.erfc, ← EReal.coe_neg, ← EReal.coe_mul, ← EReal.coe_mul, Ideal.erf_coe, ← EReal.coe_one, ← EReal.coe_sub, ← EReal.coe_mul]
  exact ⟨_, rfl⟩

include hβ hαβ in
/-- A whole step of the kernel is a multiple of the plain step. -/
theorem kernelStep_eq :
    kernelStep (scaledRel β R) (scaledDiff β R W) (scaledBias b) (scaledRow α y)
      = fun i c => ((tau : ℝ) : EReal) * plainStep (fun c k => (R c k : EReal)) W b (fun i k => (y i k : EReal)) i c := by
  funext i c
  unfold kernelStep plainStep
  rw [kernelLayer_eq α β hβ hαβ, act_scaled]

/-- A plain step on finite features and parameters is finite. -/
theorem plainStep_coe (W : Fin 64 → Fin 64 → ℝ) (b : Fin 64 → ℝ) :
    ∃ z : Fin 6 → Fin 64 → ℝ, plainStep (fun c k => (R c k : EReal)) (fun c k => (W c k : EReal)) (fun c => (b c : EReal))
      (fun i k => (y i k : EReal)) = fun i c => (z i c : EReal) := by
  have h : ∀ i c, ∃ z : ℝ, plainStep (fun c k => (R c k : EReal)) (fun c k => (W c k : EReal)) (fun c => (b c : EReal))
      (fun i k => (y i k : EReal)) i c = (z : EReal) := by
    intro i c
    unfold plainStep plainLayer
    have h₁ : (∑ k : Fin 64, gathered (fun i k => (y i k : EReal)) i k * (R c k : EReal))
        = ((∑ k, near y i k * R c k : ℝ) : EReal) := by
      rw [coe_sum]
      exact Finset.sum_congr rfl fun k _ => by rw [gathered_coe, EReal.coe_mul]
    have h₂ : (∑ k : Fin 64, (y i k : EReal) * (W c k : EReal)) = ((∑ k, y i k * W c k : ℝ) : EReal) := by
      rw [coe_sum]
      exact Finset.sum_congr rfl fun k _ => by rw [EReal.coe_mul]
    rw [h₁, h₂, ← EReal.coe_add, ← EReal.coe_add]
    exact gelu_coe _
  exact ⟨fun i c => (h i c).choose, funext fun i => funext fun c => (h i c).choose_spec⟩

/-! ## The whole row -/

/-- The mean and the affine map at the end: the multiples the activations carry cancel against the folded scale. -/
theorem close_eq (G : Row) (c : Fin 64) (g s : EReal) :
    total (fun i c => ((tau : ℝ) : EReal) * G i c) c
        * (g * Ideal.div ((rho : ℝ) : EReal) (((6 : ℝ) : EReal) * ((sigma : ℝ) : EReal))) + s
      = Ideal.div (Ideal.div (∑ i : Fin 6, G i c) ((6 : ℝ) : EReal) - 0) ((sigma : ℝ) : EReal) * g + s := by
  have hσ := sigma_pos.ne'
  have ht : total (fun i c => ((tau : ℝ) : EReal) * G i c) c = ((tau : ℝ) : EReal) * ∑ i : Fin 6, G i c := by
    unfold total
    rw [Fin.sum_univ_six]
    simp only [scale_add tau_pos.le]
  rw [ht, ← EReal.coe_mul, Ideal.div_coe (mul_ne_zero (by norm_num) hσ), Ideal.div_coe (by norm_num : (6 : ℝ) ≠ 0),
    Ideal.div_coe hσ, sub_zero]
  generalize (∑ i : Fin 6, G i c) = S
  congr 1
  have e : ((tau : ℝ) : EReal) * S * (g * (((rho : ℝ) : EReal) * ((1 / (6 * sigma) : ℝ) : EReal)))
      = S * (((tau * (rho * (1 / (6 * sigma))) : ℝ)) : EReal) * g := by
    rw [EReal.coe_mul, EReal.coe_mul]; ac_rfl
  rw [e, mul_assoc S ((1 / 6 : ℝ) : EReal), ← EReal.coe_mul, ← mul_assoc tau, tau_rho, one_mul]
  congr 3
  field_simp

/-- The kernel's row is the plain program's, its parameters being what the kernel's host code makes of the arguments. -/
theorem row_eq (x : Fin 6 → Fin 64 → ℝ) (R₁ W₁ : Fin 64 → Fin 64 → ℝ) (b₁ : Fin 64 → ℝ) (R₂ : Fin 64 → Fin 64 → ℝ) (W₂ : Mat)
    (b₂ g s : Chan) (c : Fin 64) :
    kernelRow (scaledRel rho R₁) (scaledDiff rho R₁ fun c k => (W₁ c k : EReal)) (scaledBias fun c => (b₁ c : EReal))
        (scaledRel (1 / 2) R₂) (scaledDiff (1 / 2) R₂ W₂) (scaledBias b₂)
        (fun c => g c * Ideal.div ((rho : ℝ) : EReal) (((6 : ℝ) : EReal) * ((sigma : ℝ) : EReal))) s
        (fun i k => (x i k : EReal)) c
      = plainRow (fun c k => (R₁ c k : EReal)) (fun c k => (W₁ c k : EReal)) (fun c => (b₁ c : EReal))
        (fun c k => (R₂ c k : EReal)) W₂ b₂ g s (fun i k => (x i k : EReal)) c := by
  unfold kernelRow plainRow
  have h₁ := kernelStep_eq 1 rho rho_pos (one_mul rho) x R₁ (fun c k => (W₁ c k : EReal)) fun c => (b₁ c : EReal)
  obtain ⟨z, hz⟩ := plainStep_coe x R₁ W₁ b₁
  have hx : scaledRow 1 x = fun i k => (x i k : EReal) := by funext i k; rw [scaledRow, one_mul]
  rw [hx, hz] at h₁
  have hs : (fun i c => ((tau : ℝ) : EReal) * ((z i c : ℝ) : EReal)) = scaledRow tau z := by
    funext i k; rw [scaledRow, EReal.coe_mul]
  rw [hs] at h₁
  rw [h₁, hz, kernelStep_eq tau (1 / 2) (by norm_num) tau_half z R₂ W₂ b₂]
  exact close_eq _ c (g c) (s c)

end Cert.GraphConv
-- ==== Proof.Finite.lean ====
/- The precondition read: the five arrays it names hold real numbers. -/
module

public import proofs.«01_k».proof.Pre_finite
public import proofs.«01_k».proof.Proof.Consts
public import Idealize.ShloMosaic.Lib.Pointwise

@[expose] public section

noncomputable section

namespace Cert.GraphConv

open Cert.Pre_finite Idealize.ShloMosaic

/-- The shapes the precondition's function takes. -/
instance preFacts : Cert.Pre_finite.Facts where
  bcast_S_S6x16384x64 := by decide
  bcast_S_S64x64 := by decide
  bcast_S_S64 := by decide

/-- An extended real of magnitude below infinity is a real. -/
theorem real_of_below (a : EReal) (h : Ideal.cmp .olt (max a (-a)) (Ideal.ofBits .f32 0x7F800000#32) = 1#1) :
    ∃ r : ℝ, a = (r : EReal) := by
  rw [word_inf] at h
  induction a with
  | coe r => exact ⟨r, rfl⟩
  | top => simp [Ideal.cmp] at h
  | bot => simp [Ideal.cmp] at h

section
variable (x : FVec Ideal S6x16384x64 .f32) (R₁ : FVec Ideal S64x64 .f32) (b₁ : FVec Ideal S64 .f32)
  (W₁ R₂ : FVec Ideal S64x64 .f32) (b₂ : FVec Ideal S64 .f32) (W₂ : FVec Ideal S64x64 .f32) (g s : FVec Ideal S64 .f32)

/-- Where the precondition's bits are all ones, the features hold reals. -/
theorem real_x (h : (fn (F := Ideal) x R₁ b₁ W₁ R₂ b₂ W₂ g s).1 = fun _ => 1#1) (i : S6x16384x64.Idx) :
    ∃ r : ℝ, x i = (r : EReal) := real_of_below _ (congrFun h i)

/-- So does the first layer's neighbour matrix, -/
theorem real_R₁ (h : (fn (F := Ideal) x R₁ b₁ W₁ R₂ b₂ W₂ g s).2.1 = fun _ => 1#1) (i : S64x64.Idx) :
    ∃ r : ℝ, R₁ i = (r : EReal) := real_of_below _ (congrFun h i)

/-- its bias, -/
theorem real_b₁ (h : (fn (F := Ideal) x R₁ b₁ W₁ R₂ b₂ W₂ g s).2.2.1 = fun _ => 1#1) (i : S64.Idx) :
    ∃ r : ℝ, b₁ i = (r : EReal) := real_of_below _ (congrFun h i)

/-- its own weights, -/
theorem real_W₁ (h : (fn (F := Ideal) x R₁ b₁ W₁ R₂ b₂ W₂ g s).2.2.2.1 = fun _ => 1#1) (i : S64x64.Idx) :
    ∃ r : ℝ, W₁ i = (r : EReal) := real_of_below _ (congrFun h i)

/-- and the second layer's neighbour matrix. -/
theorem real_R₂ (h : (fn (F := Ideal) x R₁ b₁ W₁ R₂ b₂ W₂ g s).2.2.2.2 = fun _ => 1#1) (i : S64x64.Idx) :
    ∃ r : ℝ, R₂ i = (r : EReal) := real_of_below _ (congrFun h i)

end

end Cert.GraphConv
-- ==== Proof.Meet.lean ====
/- The two programs' result arrays agree where the precondition holds. -/
module

public import proofs.«01_k».proof.Proof.Array
public import proofs.«01_k».proof.Proof.Plain
public import proofs.«01_k».proof.Proof.Equal
public import proofs.«01_k».proof.Proof.Finite

@[expose] public section

noncomputable section

namespace Cert.GraphConv

open Idealize.ShloMosaic Idealize.ShloMosaic.TcCoe
open Cert.KernelIdeal (nD τ sig)

/-- Where the features, the first layer's parameters and the second layer's neighbour matrix are real, the kernel's
    result is the plain program's. -/
theorem outputs_eq (m : (ℓ : Loc nD τ sig) → Buf (Elt Ideal) ℓ) (d : Dev nD)
    (hx : ∀ i, ∃ r : ℝ, argX m d i = (r : EReal)) (hR₁ : ∀ i, ∃ r : ℝ, argR₁ m d i = (r : EReal))
    (hb₁ : ∀ i, ∃ r : ℝ, argB₁ m d i = (r : EReal)) (hW₁ : ∀ i, ∃ r : ℝ, argW₁ m d i = (r : EReal))
    (hR₂ : ∀ i, ∃ r : ℝ, argR₂ m d i = (r : EReal)) :
    kernelOut m d = plainArr (argX m d) (argR₁ m d) (argB₁ m d) (argW₁ m d) (argR₂ m d) (argB₂ m d) (argW₂ m d)
      (argG m d) (argS m d) := by
  funext j
  obtain ⟨p, c, rfl⟩ : ∃ (p : Fin 16384) (c : Fin 64), j = ix2 p c := ⟨j 0, j 1, eq_ix2 j⟩
  rw [plainArr_read]
  show kernelAt m d p c = _
  choose x ex using fun (i : Fin 6) (k : Fin 64) => hx (ix3 i p k)
  choose R₁ eR₁ using fun (a b : Fin 64) => hR₁ (ix2 a b)
  choose b₁ eb₁ using fun (a : Fin 64) => hb₁ (ix1 a)
  choose W₁ eW₁ using fun (a b : Fin 64) => hW₁ (ix2 a b)
  choose R₂ eR₂ using fun (a b : Fin 64) => hR₂ (ix2 a b)
  have e := row_eq x R₁ W₁ b₁ R₂ (weight (argW₂ m d)) (channel (argB₂ m d)) (channel (argG m d)) (channel (argS m d)) c
  unfold kernelAt
  have fx : featRow (argX m d) p = fun i k => (x i k : EReal) := funext₂ ex
  have fR₁ : weight (argR₁ m d) = fun a b => (R₁ a b : EReal) := funext₂ eR₁
  have fb₁ : channel (argB₁ m d) = fun a => (b₁ a : EReal) := funext eb₁
  have fW₁ : weight (argW₁ m d) = fun a b => (W₁ a b : EReal) := funext₂ eW₁
  have fR₂ : weight (argR₂ m d) = fun a b => (R₂ a b : EReal) := funext₂ eR₂
  rw [fx, fR₁, fb₁, fW₁, fR₂]
  simp only [ex, eR₁, eb₁, eW₁, eR₂]
  exact e

end Cert.GraphConv
-- ==== Proof.Claims.lean ====
/- The claims one by one. -/
module

public import proofs.«01_k».proof.Defs
public import proofs.«01_k».proof.Proof.Meet
public import proofs.«01_k».proof.Proof.Gen.Kernel
public import proofs.«01_k».proof.Proof.Gen.Kernel.Frame
public import proofs.«01_k».proof.Proof.Gen.KernelIdeal.Frame
public import proofs.«01_k».proof.Proof.Gen.ReferenceIdeal.Run
public import Idealize.ShloMosaic.Init

@[expose] public section

noncomputable section

namespace Cert.GraphConv

open Idealize.ShloMosaic Idealize.ShloMosaic.TcCoe Idealize.SL.Sem

/-- The plain program leaves its arguments and its semaphores alone. -/
theorem plain_frame : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Run on the same arguments, the kernel and the plain program end with the same array. -/
theorem same_result : Cert.algebraic_KernelIdeal_ReferenceIdeal_pre_finite
    (hKernelIdeal := Cert.KernelIdeal.Gen.facts) (hReferenceIdeal := Cert.ReferenceIdeal.Gen.facts)
    (hPre_finite := preFacts) := by
  intro m ρ m' ρ' hpre hagree
  refine ⟨fun c => kernelOut m c, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨p0, p1, p2, p3, p4⟩ := hpre c
  obtain ⟨e0, e1, e2, e3, e4, e5, e6, e7, e8⟩ := hagree c
  refine (result_eq m' c).trans ?_
  rw [e0, e1, e2, e3, e4, e5, e6, e7, e8]
  exact (outputs_eq m c (real_x _ _ _ _ _ _ _ _ _ p0) (real_R₁ _ _ _ _ _ _ _ _ _ p1)
    (real_b₁ _ _ _ _ _ _ _ _ _ p2) (real_W₁ _ _ _ _ _ _ _ _ _ p3) (real_R₂ _ _ _ _ _ _ _ _ _ p4)).symm

end Cert.GraphConv
-- ==== Proof.lean ====
/- The whole claim: the frames, the idealization and the equality of the two programs' results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.GraphConv.preFacts,
    fun m ρ _ => Cert.Kernel.Gen.frame m ρ,
    fun m ρ _ => Cert.KernelIdeal.Gen.frame m ρ,
    fun m ρ _ => Cert.KernelIdeal.Gen.frame m ρ,
    Cert.GraphConv.plain_frame,
    fun m ρ _ => Cert.GraphConv.plain_frame m ρ trivial,
    trivial,
    Cert.GraphConv.same_result⟩

end Cert.Proof

end
